-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x8192x3 : Shape := ⟨3, ![4, 8192, 3]⟩
abbrev S2048x3 : Shape := ⟨2, ![2048, 3]⟩
abbrev S_ : Shape := ⟨0, ![]⟩

class Facts : Prop where
  bcast_S_S4x8192x3 : S_.BroadcastsInDim S4x8192x3 (![] : Fin 0 → Fin S4x8192x3.rank)
  bcast_S_S2048x3 : S_.BroadcastsInDim S2048x3 (![] : Fin 0 → Fin S2048x3.rank)

variable [Facts]

def fn {F : FTy → Type} [FloatOps F] (main_arg0 : FVec F S4x8192x3 .f32) (main_arg1 : FVec F S2048x3 .f32) : IVec S4x8192x3 1 × IVec S2048x3 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_v3 : FVec F S2048x3 .f32 := Host.absf main_arg1
  let main_cst_0 : FVec F S_ .f32 := constant S_ .f32 0x7F800000#32
  let main_v4 : FVec F S2048x3 .f32 := broadcastInDim S2048x3 ![] bcast_S_S2048x3 main_cst_0
  let main_v5 : IVec S2048x3 1 := cmpf .olt main_v3 main_v4
  (main_v2, main_v5)
-- ==== Kernel.lean ====
abbrev S4x8192x3 : Shape := ⟨3, ![4, 8192, 3]⟩
abbrev S2048x3 : Shape := ⟨2, ![2048, 3]⟩
abbrev S_ : Shape := ⟨0, ![]⟩
abbrev S4x8192 : Shape := ⟨2, ![4, 8192]⟩
abbrev S4x8192x1 : Shape := ⟨3, ![4, 8192, 1]⟩
abbrev S4x8192x5 : Shape := ⟨3, ![4, 8192, 5]⟩
abbrev S4x5x8192 : Shape := ⟨3, ![4, 5, 8192]⟩
abbrev S2048 : Shape := ⟨1, ![2048]⟩
abbrev S1x2048 : Shape := ⟨2, ![1, 2048]⟩
abbrev S3x2048 : Shape := ⟨2, ![3, 2048]⟩
abbrev S5x2048 : Shape := ⟨2, ![5, 2048]⟩
abbrev S4x15x2048 : Shape := ⟨3, ![4, 15, 2048]⟩
abbrev S5x128 : Shape := ⟨2, ![5, 128]⟩
abbrev S4x15x128 : Shape := ⟨3, ![4, 15, 128]⟩
abbrev S1x128 : Shape := ⟨2, ![1, 128]⟩
abbrev S16x128 : Shape := ⟨2, ![16, 128]⟩
abbrev S1x5x128 : Shape := ⟨3, ![1, 5, 128]⟩
abbrev S128x128 : Shape := ⟨2, ![128, 128]⟩
abbrev S64x128 : Shape := ⟨2, ![64, 128]⟩
abbrev S32x128 : Shape := ⟨2, ![32, 128]⟩
abbrev S128 : Shape := ⟨1, ![128]⟩
abbrev S1x1x128 : Shape := ⟨3, ![1, 1, 128]⟩
abbrev S4x2048x15 : Shape := ⟨3, ![4, 2048, 15]⟩

abbrev nBuf : Space → Nat
  | .hbm => 33
  | .vmem => 8
  | .smem => 0
  | _ => 0

abbrev bufTy : (tb : Table) → Fin (tcTables nBuf tb) → BufTy
  | .hbm, ⟨0, _⟩ => ⟨S4x8192x3, .f32⟩
  | .hbm, ⟨1, _⟩ => ⟨S2048x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x1, .f32⟩
  | .hbm, ⟨6, _⟩ => ⟨S_, .f32⟩
  | .hbm, ⟨7, _⟩ => ⟨S4x8192x1, .f32⟩
  | .hbm, ⟨8, _⟩ => ⟨S4x8192x5, .f32⟩
  | .hbm, ⟨9, _⟩ => ⟨S4x5x8192, .f32⟩
  | .hbm, ⟨10, _⟩ => ⟨S2048x3, .f32⟩
  | .hbm, ⟨11, _⟩ => ⟨S_, .f32⟩
  | .hbm, ⟨12, _⟩ => ⟨S2048, .f32⟩
  | .hbm, ⟨13, _⟩ => ⟨S1x2048, .f32⟩
  | .hbm, ⟨14, _⟩ => ⟨S3x2048, .f32⟩
  | .hbm, ⟨15, _⟩ => ⟨S_, .f32⟩
  | .hbm, ⟨16, _⟩ => ⟨S3x2048, .f32⟩
  | .hbm, ⟨17, _⟩ => ⟨S3x2048, .f32⟩
  | .hbm, ⟨18, _⟩ => ⟨S_, .f32⟩
  | .hbm, ⟨19, _⟩ => ⟨S1x2048, .f32⟩
  | .hbm, ⟨20, _⟩ => ⟨S5x2048, .f32⟩
  | .hbm, ⟨21, _⟩ => ⟨S4x5x8192, .bf16⟩
  | .hbm, ⟨22, _⟩ => ⟨S4x5x8192, .f32⟩
  | .hbm, ⟨23, _⟩ => ⟨S4x5x8192, .f32⟩
  | .hbm, ⟨24, _⟩ => ⟨S4x5x8192, .bf16⟩
  | .hbm, ⟨25, _⟩ => ⟨S4x5x8192, .f32⟩
  | .hbm, ⟨26, _⟩ => ⟨S5x2048, .bf16⟩
  | .hbm, ⟨27, _⟩ => ⟨S5x2048, .f32⟩
  | .hbm, ⟨28, _⟩ => ⟨S5x2048, .f32⟩
  | .hbm, ⟨29, _⟩ => ⟨S5x2048, .bf16⟩
  | .hbm, ⟨30, _⟩ => ⟨S5x2048, .f32⟩
  | .hbm, ⟨31, _⟩ => ⟨S4x15x2048, .f32⟩
  | .hbm, ⟨32, _⟩ => ⟨S4x2048x15, .f32⟩
  | .local _ .vmem, ⟨0, _⟩ => ⟨S4x5x8192, .f32⟩
  | .local _ .vmem, ⟨1, _⟩ => ⟨S4x5x8192, .f32⟩
  | .local _ .vmem, ⟨2, _⟩ => ⟨S5x128, .f32⟩
  | .local _ .vmem, ⟨3, _⟩ => ⟨S5x128, .f32⟩
  | .local _ .vmem, ⟨4, _⟩ => ⟨S5x128, .f32⟩
  | .local _ .vmem, ⟨5, _⟩ => ⟨S5x128, .f32⟩
  | .local _ .vmem, ⟨6, _⟩ => ⟨S4x15x128, .f32⟩
  | .local _ .vmem, ⟨7, _⟩ => ⟨S4x15x128, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S4x5x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x5x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x15x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4x8192x3 : Shape := ⟨3, ![4, 8192, 3]⟩
abbrev S2048x3 : Shape := ⟨2, ![2048, 3]⟩
abbrev S1x4x8192x3 : Shape := ⟨4, ![1, 4, 8192, 3]⟩
abbrev S2048x1x1x3 : Shape := ⟨4, ![2048, 1, 1, 3]⟩
abbrev S2048x4x8192x3 : Shape := ⟨4, ![2048, 4, 8192, 3]⟩
abbrev S_ : Shape := ⟨0, ![]⟩
abbrev S2048x4x8192 : Shape := ⟨3, ![2048, 4, 8192]⟩
abbrev S2048x4 : Shape := ⟨2, ![2048, 4]⟩
abbrev S1x2048x4 : Shape := ⟨3, ![1, 2048, 4]⟩
abbrev S15x2048x4 : Shape := ⟨3, ![15, 2048, 4]⟩
abbrev S4x2048x15 : Shape := ⟨3, ![4, 2048, 15]⟩

abbrev nBuf : Space → Nat
  | .hbm => 194
  | .vmem => 0
  | .smem => 0
  | _ => 0

abbrev hbmTy0_0 (i : Nat) : BufTy := match i % 128 with
  | 0 => ⟨S4x8192x3, .f32⟩
  | 1 => ⟨S2048x3, .f32⟩
  | 2 => ⟨S1x4x8192x3, .f32⟩
  | 3 => ⟨S2048x1x1x3, .f32⟩
  | 4 => ⟨S2048x4x8192x3, .f32⟩
  | 5 => ⟨S2048x4x8192x3, .f32⟩
  | 6 => ⟨S2048x4x8192x3, .f32⟩
  | 7 => ⟨S2048x4x8192x3, .f32⟩
  | 8 => ⟨S_, .f32⟩
  | 9 => ⟨S2048x4x8192, .f32⟩
  | 10 => ⟨S2048x4x8192, .f32⟩
  | 11 => ⟨S2048x4x8192, .f32⟩
  | 12 => ⟨S_, .f32⟩
  | 13 => ⟨S2048x4x8192, .f32⟩
  | 14 => ⟨S2048x4x8192, .i1⟩
  | 15 => ⟨S_, .f32⟩
  | 16 => ⟨S_, .f32⟩
  | 17 => ⟨S2048x4x8192, .f32⟩
  | 18 => ⟨S2048x4x8192, .f32⟩
  | 19 => ⟨S2048x4x8192, .f32⟩
  | 20 => ⟨S2048x4x8192, .f32⟩
  | 21 => ⟨S_, .f32⟩
  | 22 => ⟨S2048x4, .f32⟩
  | 23 => ⟨S_, .f32⟩
  | 24 => ⟨S2048x4x8192, .f32⟩
  | 25 => ⟨S2048x4x8192, .i1⟩
  | 26 => ⟨S_, .f32⟩
  | 27 => ⟨S_, .f32⟩
  | 28 => ⟨S2048x4x8192, .f32⟩
  | 29 => ⟨S2048x4x8192, .f32⟩
  | 30 => ⟨S2048x4x8192, .f32⟩
  | 31 => ⟨S2048x4x8192, .f32⟩
  | 32 => ⟨S_, .f32⟩
  | 33 => ⟨S2048x4, .f32⟩
  | 34 => ⟨S_, .f32⟩
  | 35 => ⟨S2048x4x8192, .f32⟩
  | 36 => ⟨S2048x4x8192, .i1⟩
  | 37 => ⟨S_, .f32⟩
  | 38 => ⟨S_, .f32⟩
  | 39 => ⟨S2048x4x8192, .f32⟩
  | 40 => ⟨S2048x4x8192, .f32⟩
  | 41 => ⟨S2048x4x8192, .f32⟩
  | 42 => ⟨S2048x4x8192, .f32⟩
  | 43 => ⟨S_, .f32⟩
  | 44 => ⟨S2048x4, .f32⟩
  | 45 => ⟨S_, .f32⟩
  | 46 => ⟨S2048x4x8192, .f32⟩
  | 47 => ⟨S2048x4x8192, .i1⟩
  | 48 => ⟨S_, .f32⟩
  | 49 => ⟨S_, .f32⟩
  | 50 => ⟨S2048x4x8192, .f32⟩
  | 51 => ⟨S2048x4x8192, .f32⟩
  | 52 => ⟨S2048x4x8192, .f32⟩
  | 53 => ⟨S2048x4x8192, .f32⟩
  | 54 => ⟨S_, .f32⟩
  | 55 => ⟨S2048x4, .f32⟩
  | 56 => ⟨S_, .f32⟩
  | 57 => ⟨S2048x4x8192, .f32⟩
  | 58 => ⟨S2048x4x8192, .i1⟩
  | 59 => ⟨S_, .f32⟩
  | 60 => ⟨S_, .f32⟩
  | 61 => ⟨S2048x4x8192, .f32⟩
  | 62 => ⟨S2048x4x8192, .f32⟩
  | 63 => ⟨S2048x4x8192, .f32⟩
  | 64 => ⟨S2048x4x8192, .f32⟩
  | 65 => ⟨S_, .f32⟩
  | 66 => ⟨S2048x4, .f32⟩
  | 67 => ⟨S_, .f32⟩
  | 68 => ⟨S2048x4x8192, .f32⟩
  | 69 => ⟨S2048x4x8192, .i1⟩
  | 70 => ⟨S_, .f32⟩
  | 71 => ⟨S_, .f32⟩
  | 72 => ⟨S2048x4x8192, .f32⟩
  | 73 => ⟨S2048x4x8192, .f32⟩
  | 74 => ⟨S2048x4x8192, .f32⟩
  | 75 => ⟨S2048x4x8192, .f32⟩
  | 76 => ⟨S_, .f32⟩
  | 77 => ⟨S2048x4, .f32⟩
  | 78 => ⟨S_, .f32⟩
  | 79 => ⟨S2048x4x8192, .f32⟩
  | 80 => ⟨S2048x4x8192, .i1⟩
  | 81 => ⟨S_, .f32⟩
  | 82 => ⟨S_, .f32⟩
  | 83 => ⟨S2048x4x8192, .f32⟩
  | 84 => ⟨S2048x4x8192, .f32⟩
  | 85 => ⟨S2048x4x8192, .f32⟩
  | 86 => ⟨S2048x4x8192, .f32⟩
  | 87 => ⟨S_, .f32⟩
  | 88 => ⟨S2048x4, .f32⟩
  | 89 => ⟨S_, .f32⟩
  | 90 => ⟨S2048x4x8192, .f32⟩
  | 91 => ⟨S2048x4x8192, .i1⟩
  | 92 => ⟨S_, .f32⟩
  | 93 => ⟨S_, .f32⟩
  | 94 => ⟨S2048x4x8192, .f32⟩
  | 95 => ⟨S2048x4x8192, .f32⟩
  | 96 => ⟨S2048x4x8192, .f32⟩
  | 97 => ⟨S2048x4x8192, .f32⟩
  | 98 => ⟨S_, .f32⟩
  | 99 => ⟨S2048x4, .f32⟩
  | 100 => ⟨S_, .f32⟩
  | 101 => ⟨S2048x4x8192, .f32⟩
  | 102 => ⟨S2048x4x8192, .i1⟩
  | 103 => ⟨S_, .f32⟩
  | 104 => ⟨S_, .f32⟩
  | 105 => ⟨S2048x4x8192, .f32⟩
  | 106 => ⟨S2048x4x8192, .f32⟩
  | 107 => ⟨S2048x4x8192, .f32⟩
  | 108 => ⟨S2048x4x8192, .f32⟩
  | 109 => ⟨S_, .f32⟩
  | 110 => ⟨S2048x4, .f32⟩
  | 111 => ⟨S_, .f32⟩
  | 112 => ⟨S2048x4x8192, .f32⟩
  | 113 => ⟨S2048x4x8192, .i1⟩
  | 114 => ⟨S_, .f32⟩
  | 115 => ⟨S_, .f32⟩
  | 116 => ⟨S2048x4x8192, .f32⟩
  | 117 => ⟨S2048x4x8192, .f32⟩
  | 118 => ⟨S2048x4x8192, .f32⟩
  | 119 => ⟨S2048x4x8192, .f32⟩
  | 120 => ⟨S_, .f32⟩
  | 121 => ⟨S2048x4, .f32⟩
  | 122 => ⟨S_, .f32⟩
  | 123 => ⟨S2048x4x8192, .f32⟩
  | 124 => ⟨S2048x4x8192, .i1⟩
  | 125 => ⟨S_, .f32⟩
  | 126 => ⟨S_, .f32⟩
  | 127 => ⟨S2048x4x8192, .f32⟩
  | _ => ⟨S4x8192x3, .f32⟩

abbrev hbmTy0_1 (i : Nat) : BufTy := match i % 128 with
  | 0 => ⟨S2048x4x8192, .f32⟩
  | 1 => ⟨S2048x4x8192, .f32⟩
  | 2 => ⟨S2048x4x8192, .f32⟩
  | 3 => ⟨S_, .f32⟩
  | 4 => ⟨S2048x4, .f32⟩
  | 5 => ⟨S_, .f32⟩
  | 6 => ⟨S2048x4x8192, .f32⟩
  | 7 => ⟨S2048x4x8192, .i1⟩
  | 8 => ⟨S_, .f32⟩
  | 9 => ⟨S_, .f32⟩
  | 10 => ⟨S2048x4x8192, .f32⟩
  | 11 => ⟨S2048x4x8192, .f32⟩
  | 12 => ⟨S2048x4x8192, .f32⟩
  | 13 => ⟨S2048x4x8192, .f32⟩
  | 14 => ⟨S_, .f32⟩
  | 15 => ⟨S2048x4, .f32⟩
  | 16 => ⟨S_, .f32⟩
  | 17 => ⟨S2048x4x8192, .f32⟩
  | 18 => ⟨S2048x4x8192, .i1⟩
  | 19 => ⟨S_, .f32⟩
  | 20 => ⟨S_, .f32⟩
  | 21 => ⟨S2048x4x8192, .f32⟩
  | 22 => ⟨S2048x4x8192, .f32⟩
  | 23 => ⟨S2048x4x8192, .f32⟩
  | 24 => ⟨S2048x4x8192, .f32⟩
  | 25 => ⟨S_, .f32⟩
  | 26 => ⟨S2048x4, .f32⟩
  | 27 => ⟨S_, .f32⟩
  | 28 => ⟨S2048x4x8192, .f32⟩
  | 29 => ⟨S2048x4x8192, .i1⟩
  | 30 => ⟨S_, .f32⟩
  | 31 => ⟨S_, .f32⟩
  | 32 => ⟨S2048x4x8192, .f32⟩
  | 33 => ⟨S2048x4x8192, .f32⟩
  | 34 => ⟨S2048x4x8192, .f32⟩
  | 35 => ⟨S2048x4x8192, .f32⟩
  | 36 => ⟨S_, .f32⟩
  | 37 => ⟨S2048x4, .f32⟩
  | 38 => ⟨S_, .f32⟩
  | 39 => ⟨S2048x4x8192, .f32⟩
  | 40 => ⟨S2048x4x8192, .i1⟩
  | 41 => ⟨S_, .f32⟩
  | 42 => ⟨S_, .f32⟩
  | 43 => ⟨S2048x4x8192, .f32⟩
  | 44 => ⟨S2048x4x8192, .f32⟩
  | 45 => ⟨S2048x4x8192, .f32⟩
  | 46 => ⟨S2048x4x8192, .f32⟩
  | 47 => ⟨S_, .f32⟩
  | 48 => ⟨S2048x4, .f32⟩
  | 49 => ⟨S1x2048x4, .f32⟩
  | 50 => ⟨S1x2048x4, .f32⟩
  | 51 => ⟨S1x2048x4, .f32⟩
  | 52 => ⟨S1x2048x4, .f32⟩
  | 53 => ⟨S1x2048x4, .f32⟩
  | 54 => ⟨S1x2048x4, .f32⟩
  | 55 => ⟨S1x2048x4, .f32⟩
  | 56 => ⟨S1x2048x4, .f32⟩
  | 57 => ⟨S1x2048x4, .f32⟩
  | 58 => ⟨S1x2048x4, .f32⟩
  | 59 => ⟨S1x2048x4, .f32⟩
  | 60 => ⟨S1x2048x4, .f32⟩
  | 61 => ⟨S1x2048x4, .f32⟩
  | 62 => ⟨S1x2048x4, .f32⟩
  | 63 => ⟨S1x2048x4, .f32⟩
  | 64 => ⟨S15x2048x4, .f32⟩
  | 65 => ⟨S4x2048x15, .f32⟩
  | _ => ⟨S4x8192x3, .f32⟩

abbrev hbmTy (i : Nat) : BufTy := match i / 128 with
  | 0 => hbmTy0_0 i
  | 1 => hbmTy0_1 i
  | _ => ⟨S4x8192x3, .f32⟩

abbrev bufTy : (tb : Table) → Fin (tcTables nBuf tb) → BufTy
  | .hbm, ⟨i, _⟩ => hbmTy i
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_cst_2 : Ref sig .tc := ⟨.hbm, 16, rfl⟩
abbrev main_call0_v0 : Ref sig .tc := ⟨.hbm, 17, rfl⟩
abbrev main_call0_v1 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_cst_6 : Ref sig .tc := ⟨.hbm, 27, rfl⟩
abbrev main_call1_v0 : Ref sig .tc := ⟨.hbm, 28, rfl⟩
abbrev main_call1_v1 : Ref sig .tc := ⟨.hbm, 29, rfl⟩
abbrev main_v16 : Ref sig .tc := ⟨.hbm, 30, rfl⟩
abbrev main_v17 : Ref sig .tc := ⟨.hbm, 31, rfl⟩
abbrev main_cst_7 : Ref sig .tc := ⟨.hbm, 32, rfl⟩
abbrev main_v18 : Ref sig .tc := ⟨.hbm, 33, rfl⟩
abbrev main_cst_8 : Ref sig .tc := ⟨.hbm, 34, rfl⟩
abbrev main_v19 : Ref sig .tc := ⟨.hbm, 35, rfl⟩
abbrev main_v20 : Ref sig .tc := ⟨.hbm, 36, rfl⟩
abbrev main_cst_9 : Ref sig .tc := ⟨.hbm, 37, rfl⟩
abbrev main_cst_10 : Ref sig .tc := ⟨.hbm, 38, rfl⟩
abbrev main_call2_v0 : Ref sig .tc := ⟨.hbm, 39, rfl⟩
abbrev main_call2_v1 : Ref sig .tc := ⟨.hbm, 40, rfl⟩
abbrev main_v21 : Ref sig .tc := ⟨.hbm, 41, rfl⟩
abbrev main_v22 : Ref sig .tc := ⟨.hbm, 42, rfl⟩
abbrev main_cst_11 : Ref sig .tc := ⟨.hbm, 43, rfl⟩
abbrev main_v23 : Ref sig .tc := ⟨.hbm, 44, rfl⟩
abbrev main_cst_12 : Ref sig .tc := ⟨.hbm, 45, rfl⟩
abbrev main_v24 : Ref sig .tc := ⟨.hbm, 46, rfl⟩
abbrev main_v25 : Ref sig .tc := ⟨.hbm, 47, rfl⟩
abbrev main_cst_13 : Ref sig .tc := ⟨.hbm, 48, rfl⟩
abbrev main_cst_14 : Ref sig .tc := ⟨.hbm, 49, rfl⟩
abbrev main_call3_v0 : Ref sig .tc := ⟨.hbm, 50, rfl⟩
abbrev main_call3_v1 : Ref sig .tc := ⟨.hbm, 51, rfl⟩
abbrev main_v26 : Ref sig .tc := ⟨.hbm, 52, rfl⟩
abbrev main_v27 : Ref sig .tc := ⟨.hbm, 53, rfl⟩
abbrev main_cst_15 : Ref sig .tc := ⟨.hbm, 54, rfl⟩
abbrev main_v28 : Ref sig .tc := ⟨.hbm, 55, rfl⟩
abbrev main_cst_16 : Ref sig .tc := ⟨.hbm, 56, rfl⟩
abbrev main_v29 : Ref sig .tc := ⟨.hbm, 57, rfl⟩
abbrev main_v30 : Ref sig .tc := ⟨.hbm, 58, rfl⟩
abbrev main_cst_17 : Ref sig .tc := ⟨.hbm, 59, rfl⟩
abbrev main_cst_18 : Ref sig .tc := ⟨.hbm, 60, rfl⟩
abbrev main_call4_v0 : Ref sig .tc := ⟨.hbm, 61, rfl⟩
abbrev main_call4_v1 : Ref sig .tc := ⟨.hbm, 62, rfl⟩
abbrev main_v31 : Ref sig .tc := ⟨.hbm, 63, rfl⟩
abbrev main_v32 : Ref sig .tc := ⟨.hbm, 64, rfl⟩
abbrev main_cst_19 : Ref sig .tc := ⟨.hbm, 65, rfl⟩
abbrev main_v33 : Ref sig .tc := ⟨.hbm, 66, rfl⟩
abbrev main_cst_20 : Ref sig .tc := ⟨.hbm, 67, rfl⟩
abbrev main_v34 : Ref sig .tc := ⟨.hbm, 68, rfl⟩
abbrev main_v35 : Ref sig .tc := ⟨.hbm, 69, rfl⟩
abbrev main_cst_21 : Ref sig .tc := ⟨.hbm, 70, rfl⟩
abbrev main_cst_22 : Ref sig .tc := ⟨.hbm, 71, rfl⟩
abbrev main_call5_v0 : Ref sig .tc := ⟨.hbm, 72, rfl⟩
abbrev main_call5_v1 : Ref sig .tc := ⟨.hbm, 73, rfl⟩
abbrev main_v36 : Ref sig .tc := ⟨.hbm, 74, rfl⟩
abbrev main_v37 : Ref sig .tc := ⟨.hbm, 75, rfl⟩
abbrev main_cst_23 : Ref sig .tc := ⟨.hbm, 76, rfl⟩
abbrev main_v38 : Ref sig .tc := ⟨.hbm, 77, rfl⟩
abbrev main_cst_24 : Ref sig .tc := ⟨.hbm, 78, rfl⟩
abbrev main_v39 : Ref sig .tc := ⟨.hbm, 79, rfl⟩
abbrev main_v40 : Ref sig .tc := ⟨.hbm, 80, rfl⟩
abbrev main_cst_25 : Ref sig .tc := ⟨.hbm, 81, rfl⟩
abbrev main_cst_26 : Ref sig .tc := ⟨.hbm, 82, rfl⟩
abbrev main_call6_v0 : Ref sig .tc := ⟨.hbm, 83, rfl⟩
abbrev main_call6_v1 : Ref sig .tc := ⟨.hbm, 84, rfl⟩
abbrev main_v41 : Ref sig .tc := ⟨.hbm, 85, rfl⟩
abbrev main_v42 : Ref sig .tc := ⟨.hbm, 86, rfl⟩
abbrev main_cst_27 : Ref sig .tc := ⟨.hbm, 87, rfl⟩
abbrev main_v43 : Ref sig .tc := ⟨.hbm, 88, rfl⟩
abbrev main_cst_28 : Ref sig .tc := ⟨.hbm, 89, rfl⟩
abbrev main_v44 : Ref sig .tc := ⟨.hbm, 90, rfl⟩
abbrev main_v45 : Ref sig .tc := ⟨.hbm, 91, rfl⟩
abbrev main_cst_29 : Ref sig .tc := ⟨.hbm, 92, rfl⟩
abbrev main_cst_30 : Ref sig .tc := ⟨.hbm, 93, rfl⟩
abbrev main_call7_v0 : Ref sig .tc := ⟨.hbm, 94, rfl⟩
abbrev main_call7_v1 : Ref sig .tc := ⟨.hbm, 95, rfl⟩
abbrev main_v46 : Ref sig .tc := ⟨.hbm, 96, rfl⟩
abbrev main_v47 : Ref sig .tc := ⟨.hbm, 97, rfl⟩
abbrev main_cst_31 : Ref sig .tc := ⟨.hbm, 98, rfl⟩
abbrev main_v48 : Ref sig .tc := ⟨.hbm, 99, rfl⟩
abbrev main_cst_32 : Ref sig .tc := ⟨.hbm, 100, rfl⟩
abbrev main_v49 : Ref sig .tc := ⟨.hbm, 101, rfl⟩
abbrev main_v50 : Ref sig .tc := ⟨.hbm, 102, rfl⟩
abbrev main_cst_33 : Ref sig .tc := ⟨.hbm, 103, rfl⟩
abbrev main_cst_34 : Ref sig .tc := ⟨.hbm, 104, rfl⟩
abbrev main_call8_v0 : Ref sig .tc := ⟨.hbm, 105, rfl⟩
abbrev main_call8_v1 : Ref sig .tc := ⟨.hbm, 106, rfl⟩
abbrev main_v51 : Ref sig .tc := ⟨.hbm, 107, rfl⟩
abbrev main_v52 : Ref sig .tc := ⟨.hbm, 108, rfl⟩
abbrev main_cst_35 : Ref sig .tc := ⟨.hbm, 109, rfl⟩
abbrev main_v53 : Ref sig .tc := ⟨.hbm, 110, rfl⟩
abbrev main_cst_36 : Ref sig .tc := ⟨.hbm, 111, rfl⟩
abbrev main_v54 : Ref sig .tc := ⟨.hbm, 112, rfl⟩
abbrev main_v55 : Ref sig .tc := ⟨.hbm, 113, rfl⟩
abbrev main_cst_37 : Ref sig .tc := ⟨.hbm, 114, rfl⟩
abbrev main_cst_38 : Ref sig .tc := ⟨.hbm, 115, rfl⟩
abbrev main_call9_v0 : Ref sig .tc := ⟨.hbm, 116, rfl⟩
abbrev main_call9_v1 : Ref sig .tc := ⟨.hbm, 117, rfl⟩
abbrev main_v56 : Ref sig .tc := ⟨.hbm, 118, rfl⟩
abbrev main_v57 : Ref sig .tc := ⟨.hbm, 119, rfl⟩
abbrev main_cst_39 : Ref sig .tc := ⟨.hbm, 120, rfl⟩
abbrev main_v58 : Ref sig .tc := ⟨.hbm, 121, rfl⟩
abbrev main_cst_40 : Ref sig .tc := ⟨.hbm, 122, rfl⟩
abbrev main_v59 : Ref sig .tc := ⟨.hbm, 123, rfl⟩
abbrev main_v60 : Ref sig .tc := ⟨.hbm, 124, rfl⟩
abbrev main_cst_41 : Ref sig .tc := ⟨.hbm, 125, rfl⟩
abbrev main_cst_42 : Ref sig .tc := ⟨.hbm, 126, rfl⟩
abbrev main_call10_v0 : Ref sig .tc := ⟨.hbm, 127, rfl⟩
abbrev main_call10_v1 : Ref sig .tc := ⟨.hbm, 128, rfl⟩
abbrev main_v61 : Ref sig .tc := ⟨.hbm, 129, rfl⟩
abbrev main_v62 : Ref sig .tc := ⟨.hbm, 130, rfl⟩
abbrev main_cst_43 : Ref sig .tc := ⟨.hbm, 131, rfl⟩
abbrev main_v63 : Ref sig .tc := ⟨.hbm, 132, rfl⟩
abbrev main_cst_44 : Ref sig .tc := ⟨.hbm, 133, rfl⟩
abbrev main_v64 : Ref sig .tc := ⟨.hbm, 134, rfl⟩
abbrev main_v65 : Ref sig .tc := ⟨.hbm, 135, rfl⟩
abbrev main_cst_45 : Ref sig .tc := ⟨.hbm, 136, rfl⟩
abbrev main_cst_46 : Ref sig .tc := ⟨.hbm, 137, rfl⟩
abbrev main_call11_v0 : Ref sig .tc := ⟨.hbm, 138, rfl⟩
abbrev main_call11_v1 : Ref sig .tc := ⟨.hbm, 139, rfl⟩
abbrev main_v66 : Ref sig .tc := ⟨.hbm, 140, rfl⟩
abbrev main_v67 : Ref sig .tc := ⟨.hbm, 141, rfl⟩
abbrev main_cst_47 : Ref sig .tc := ⟨.hbm, 142, rfl⟩
abbrev main_v68 : Ref sig .tc := ⟨.hbm, 143, rfl⟩
abbrev main_cst_48 : Ref sig .tc := ⟨.hbm, 144, rfl⟩
abbrev main_v69 : Ref sig .tc := ⟨.hbm, 145, rfl⟩
abbrev main_v70 : Ref sig .tc := ⟨.hbm, 146, rfl⟩
abbrev main_cst_49 : Ref sig .tc := ⟨.hbm, 147, rfl⟩
abbrev main_cst_50 : Ref sig .tc := ⟨.hbm, 148, rfl⟩
abbrev main_call12_v0 : Ref sig .tc := ⟨.hbm, 149, rfl⟩
abbrev main_call12_v1 : Ref sig .tc := ⟨.hbm, 150, rfl⟩
abbrev main_v71 : Ref sig .tc := ⟨.hbm, 151, rfl⟩
abbrev main_v72 : Ref sig .tc := ⟨.hbm, 152, rfl⟩
abbrev main_cst_51 : Ref sig .tc := ⟨.hbm, 153, rfl⟩
abbrev main_v73 : Ref sig .tc := ⟨.hbm, 154, rfl⟩
abbrev main_cst_52 : Ref sig .tc := ⟨.hbm, 155, rfl⟩
abbrev main_v74 : Ref sig .tc := ⟨.hbm, 156, rfl⟩
abbrev main_v75 : Ref sig .tc := ⟨.hbm, 157, rfl⟩
abbrev main_cst_53 : Ref sig .tc := ⟨.hbm, 158, rfl⟩
abbrev main_cst_54 : Ref sig .tc := ⟨.hbm, 159, rfl⟩
abbrev main_call13_v0 : Ref sig .tc := ⟨.hbm, 160, rfl⟩
abbrev main_call13_v1 : Ref sig .tc := ⟨.hbm, 161, rfl⟩
abbrev main_v76 : Ref sig .tc := ⟨.hbm, 162, rfl⟩
abbrev main_v77 : Ref sig .tc := ⟨.hbm, 163, rfl⟩
abbrev main_cst_55 : Ref sig .tc := ⟨.hbm, 164, rfl⟩
abbrev main_v78 : Ref sig .tc := ⟨.hbm, 165, rfl⟩
abbrev main_cst_56 : Ref sig .tc := ⟨.hbm, 166, rfl⟩
abbrev main_v79 : Ref sig .tc := ⟨.hbm, 167, rfl⟩
abbrev main_v80 : Ref sig .tc := ⟨.hbm, 168, rfl⟩
abbrev main_cst_57 : Ref sig .tc := ⟨.hbm, 169, rfl⟩
abbrev main_cst_58 : Ref sig .tc := ⟨.hbm, 170, rfl⟩
abbrev main_call14_v0 : Ref sig .tc := ⟨.hbm, 171, rfl⟩
abbrev main_call14_v1 : Ref sig .tc := ⟨.hbm, 172, rfl⟩
abbrev main_v81 : Ref sig .tc := ⟨.hbm, 173, rfl⟩
abbrev main_v82 : Ref sig .tc := ⟨.hbm, 174, rfl⟩
abbrev main_cst_59 : Ref sig .tc := ⟨.hbm, 175, rfl⟩
abbrev main_v83 : Ref sig .tc := ⟨.hbm, 176, rfl⟩
abbrev main_v84 : Ref sig .tc := ⟨.hbm, 177, rfl⟩
abbrev main_v85 : Ref sig .tc := ⟨.hbm, 178, rfl⟩
abbrev main_v86 : Ref sig .tc := ⟨.hbm, 179, rfl⟩
abbrev main_v87 : Ref sig .tc := ⟨.hbm, 180, rfl⟩
abbrev main_v88 : Ref sig .tc := ⟨.hbm, 181, rfl⟩
abbrev main_v89 : Ref sig .tc := ⟨.hbm, 182, rfl⟩
abbrev main_v90 : Ref sig .tc := ⟨.hbm, 183, rfl⟩
abbrev main_v91 : Ref sig .tc := ⟨.hbm, 184, rfl⟩
abbrev main_v92 : Ref sig .tc := ⟨.hbm, 185, rfl⟩
abbrev main_v93 : Ref sig .tc := ⟨.hbm, 186, rfl⟩
abbrev main_v94 : Ref sig .tc := ⟨.hbm, 187, rfl⟩
abbrev main_v95 : Ref sig .tc := ⟨.hbm, 188, rfl⟩
abbrev main_v96 : Ref sig .tc := ⟨.hbm, 189, rfl⟩
abbrev main_v97 : Ref sig .tc := ⟨.hbm, 190, rfl⟩
abbrev main_v98 : Ref sig .tc := ⟨.hbm, 191, rfl⟩
abbrev main_v99 : Ref sig .tc := ⟨.hbm, 192, rfl⟩
abbrev main_v100 : Ref sig .tc := ⟨.hbm, 193, rfl⟩

abbrev nD : Nat := 1
abbrev τ : Topo := Topo.v7x

variable {F : FTy → Type} [FloatOps F]
-- ==== Proof.Scalar.lean ====
/- The mathematics of one distance: the squared distance as a product of five numbers, and a rounded distance against
   its rounded square. -/
module

public import Idealize.ShloMosaic.PureOps.Ideal
public import Idealize.ShloMosaic.PureOps.Ideal.Laws
public import Mathlib.Analysis.Real.Sqrt

@[expose] public section

noncomputable section

namespace Cert.Counts

open Idealize.ShloMosaic

/-- A distance rounded up is at most a whole number exactly when its square rounded up is at most that number's
    square. -/
theorem ceil_sqrt_le_iff (d : ℝ) (hd : 0 ≤ d) (k : ℕ) :
    Ideal.liftRound Int.ceil (Ideal.sqrt (d : EReal)) ≤ ((k : ℝ) : EReal)
      ↔ Ideal.liftRound Int.ceil (d : EReal) ≤ (((k ^ 2 : ℕ) : ℝ) : EReal) := by
  rw [Ideal.sqrt_coe, if_neg (not_lt.2 hd), Ideal.liftRound_coe, Ideal.liftRound_coe, EReal.coe_le_coe_iff,
    EReal.coe_le_coe_iff]
  have h1 : ((⌈Real.sqrt d⌉ : ℝ) ≤ (k : ℝ)) ↔ Real.sqrt d ≤ (k : ℝ) := by
    rw [show ((k : ℝ)) = ((k : ℤ) : ℝ) by simp, Int.cast_le, Int.ceil_le]
  have h2 : ((⌈d⌉ : ℝ) ≤ ((k ^ 2 : ℕ) : ℝ)) ↔ d ≤ ((k ^ 2 : ℕ) : ℝ) := by
    rw [show (((k ^ 2 : ℕ) : ℝ)) = (((k ^ 2 : ℕ) : ℤ) : ℝ) by simp, Int.cast_le, Int.ceil_le]
  rw [h1, h2, Real.sqrt_le_left (by positivity)]
  push_cast
  rfl

/-- The bit patterns of the reference's thresholds 1, 2, …, 15. -/
def lin (t : Fin 15) : BitVec 32 :=
  ![0x3F800000#32, 0x40000000#32, 0x40400000#32, 0x40800000#32, 0x40A00000#32, 0x40C00000#32, 0x40E00000#32, 0x41000000#32,
    0x41100000#32, 0x41200000#32, 0x41300000#32, 0x41400000#32, 0x41500000#32, 0x41600000#32, 0x41700000#32] t

/-- The bit patterns of the kernel's thresholds 1, 4, …, 225. -/
def sq (t : Fin 15) : BitVec 16 :=
  ![0x3F80#16, 0x4080#16, 0x4110#16, 0x4180#16, 0x41C8#16, 0x4210#16, 0x4244#16, 0x4280#16, 0x42A2#16, 0x42C8#16, 0x42F2#16,
    0x4310#16, 0x4329#16, 0x4344#16, 0x4361#16] t

theorem ofBits_lin (t : Fin 15) : Ideal.ofBits .f32 (lin t) = (((t.val + 1 : ℕ) : ℝ) : EReal) := by
  fin_cases t <;> simp [lin, Ideal.ofBits, Ideal.ieee, -EReal.coe_mul] <;> norm_num

theorem ofBits_sq (t : Fin 15) : Ideal.ofBits .bf16 (sq t) = ((((t.val + 1) ^ 2 : ℕ) : ℝ) : EReal) := by
  fin_cases t <;> simp [sq, Ideal.ofBits, Ideal.ieee, -EReal.coe_mul] <;> norm_num

theorem ofBits_neg_two : Ideal.ofBits .f32 0xC0000000#32 = ((-2 : ℝ) : EReal) := by
  simp [Ideal.ofBits, Ideal.ieee, -EReal.coe_mul]
  norm_num

/-- How many of the 8192 numbers are at most a threshold. -/
abbrev counts (e : Fin 8192 → EReal) (thr : EReal) : EReal := ∑ n, if e n ≤ thr then 1 else 0

/-- The squared distance of two points. -/
def dist2 (p q : Fin 3 → EReal) : EReal := ∑ x, (p x - q x) * (p x - q x)

/-- A point's five numbers: its coordinates, the sum of their squares, and one. -/
def aug (p : Fin 3 → EReal) : Fin 5 → EReal := ![p 0, p 1, p 2, ∑ x, p x * p x, 1]

/-- A place's five numbers: its coordinates times minus two, one, and the sum of the squares. -/
def laug (q : Fin 3 → EReal) : Fin 5 → EReal :=
  ![((-2 : ℝ) : EReal) * q 0, ((-2 : ℝ) : EReal) * q 1, ((-2 : ℝ) : EReal) * q 2, 1, ∑ x, q x * q x]

/-- The sum of the three products of a point's numbers and their remainders with a place's. -/
def prods (a a' l l' : Fin 5 → EReal) : EReal := (∑ k, a k * l k) + (∑ k, a k * l' k) + ∑ k, a' k * l k

/-- For real coordinates the three products add up to the squared distance. -/
theorem prods_eq (p q : Fin 3 → ℝ) :
    prods (aug fun x => p x) (fun k => aug (fun x => p x) k - aug (fun x => p x) k) (laug fun x => q x)
        (fun k => laug (fun x => q x) k - laug (fun x => q x) k)
      = ((∑ x, (p x - q x) ^ 2 : ℝ) : EReal) := by
  simp only [prods, aug, laug, Fin.sum_univ_five, Fin.sum_univ_three, Matrix.cons_val]
  simp only [← EReal.coe_mul, ← EReal.coe_add, ← EReal.coe_sub, ← EReal.coe_one]
  congr 1
  ring

theorem dist2_eq (p q : Fin 3 → ℝ) : dist2 (fun x => p x) (fun x => q x) = ((∑ x, (p x - q x) ^ 2 : ℝ) : EReal) := by
  simp only [dist2, Fin.sum_univ_three, ← EReal.coe_mul, ← EReal.coe_add, ← EReal.coe_sub]
  congr 1
  ring

/-- The kernel's comparison and the reference's agree for real coordinates. -/
theorem counts_iff (p q : Fin 3 → EReal) (hp : ∀ x, ∃ r : ℝ, p x = r) (hq : ∀ x, ∃ r : ℝ, q x = r) (t : Fin 15) :
    Ideal.liftRound Int.ceil (prods (aug p) (fun k => aug p k - aug p k) (laug q) (fun k => laug q k - laug q k))
        ≤ Ideal.ofBits .bf16 (sq t)
      ↔ Ideal.liftRound Int.ceil (Ideal.sqrt (dist2 p q)) ≤ Ideal.ofBits .f32 (lin t) := by
  choose p' hp using hp
  choose q' hq using hq
  obtain rfl : p = fun x => (p' x : EReal) := funext hp
  obtain rfl : q = fun x => (q' x : EReal) := funext hq
  rw [prods_eq, dist2_eq, ofBits_sq, ofBits_lin]
  exact (ceil_sqrt_le_iff _ (Finset.sum_nonneg fun _ _ => sq_nonneg _) _).symm

end Cert.Counts
end
-- ==== Proof.Spec.lean ====
/- What one call of the kernel's body computes, said once for every batch, chunk and threshold. The printed body is the
   same sixty computations written out one after the other (Body.lean shows that they are these). -/
module

public import proofs.«01_k».proof.Proof.Gen.KernelIdeal
public import Idealize.ShloMosaic.Lib.Pipeline.Value
public import Idealize.ShloMosaic.Lib.Pipeline.ValueKit.Tiles
public import Idealize.ShloMosaic.Lib.Pointwise
public import proofs.«01_k».proof.Proof.Scalar

@[expose] public section

set_option maxRecDepth 16384

noncomputable section

namespace Cert.KernelIdeal.Body

open Cert.KernelIdeal Cert.KernelIdeal.Gen Idealize.ShloMosaic Idealize.ShloMosaic.TcCoe
open Cert.Counts (sq)

variable {F : FTy → Type} [FloatOps F]

/-- The four input blocks: the points' numbers and their remainders, the places' numbers and their remainders. -/
structure Blocks (F : FTy → Type) where
  ah : Vec F S4x5x8192 .f32
  al : Vec F S4x5x8192 .f32
  lh : Vec F S5x128 .f32
  ll : Vec F S5x128 .f32

theorem inb_pts (b : Fin 4) (c : Fin 64) :
    ∀ a, (![b.val, 0, c.val * 128] : Fin 3 → Nat) a + S1x5x128.size a ≤ S4x5x8192.size a := by
  intro a
  have := b.isLt
  have := c.isLt
  fin_cases a <;> simp <;> omega

theorem inb_out (b : Fin 4) (t : Fin 15) :
    ∀ a, (![b.val, t.val, 0] : Fin 3 → Nat) a + S1x1x128.size a ≤ S4x15x128.size a := by
  intro a
  have := b.isLt
  have := t.isLt
  fin_cases a <;> simp <;> omega

theorem inb_locs : ∀ a, (![0, 0] : Fin 2 → Nat) a + S5x128.size a ≤ S5x128.size a := by decide

/-- The numbers of the 128 points of chunk `c` of batch `b`. -/
def pts (x : Vec F S4x5x8192 .f32) (b : Fin 4) (c : Fin 64) : FVec F S5x128 .f32 :=
  shapeCast S5x128 (View.ld x
    (Rect.unit (s := S4x5x8192) ![b.val, 0, c.val * 128] S1x5x128.size (inb_pts b c))) shapeCasts_S1x5x128_S5x128

/-- The numbers of the block's 128 places. -/
def locs (x : Vec F S5x128 .f32) : FVec F S5x128 .f32 :=
  shapeCast S5x128 (View.ld x (Rect.unit (s := S5x128) ![0, 0] S5x128.size inb_locs))
    shapeCasts_S5x128_S5x128

/-- The products of points and places. -/
def dot (p l : FVec F S5x128 .f32) : FVec F S128x128 .f32 :=
  matmul dot_S5x128_S5x128_S128x128_0_0_1_1_n_n none p l (constant S128x128 .f32 0x00000000#32)

/-- The squared distances of chunk `c`'s points from the block's places, rounded up. -/
def e16 (x : Blocks F) (b : Fin 4) (c : Fin 64) : FVec F S128x128 .bf16 :=
  truncf .bf16 (ceil (addf (addf (dot (pts x.ah b c) (locs x.lh)) (dot (pts x.ah b c) (locs x.ll)))
    (dot (pts x.al b c) (locs x.lh)))) bitsLt_bf16_f32

/-- One where a rounded squared distance is at most the threshold, zero elsewhere. -/
def mask (t : Fin 15) (e : FVec F S128x128 .bf16) : FVec F S128x128 .bf16 :=
  select (cmpf .ole e (broadcast S128x128 (Scalar.ofBits .bf16 (sq t)))) (broadcast S128x128 (Scalar.ofBits .bf16 0x3F80#16))
    (broadcast S128x128 (Scalar.ofBits .bf16 0x0000#16))

/-- Rows added in halves, from 128 to 64. -/
def half64 (m : FVec F S128x128 .bf16) : FVec F S64x128 .bf16 :=
  addf (extractStridedSlice S64x128 ![0, 0] m slices_S128x128_o0_0_S64x128)
    (extractStridedSlice S64x128 ![64, 0] m slices_S128x128_o64_0_S64x128)

/-- Rows added in halves, from 64 to 32. -/
def half32 (m : FVec F S64x128 .bf16) : FVec F S32x128 .bf16 :=
  addf (extractStridedSlice S32x128 ![0, 0] m slices_S64x128_o0_0_S32x128)
    (extractStridedSlice S32x128 ![32, 0] m slices_S64x128_o32_0_S32x128)

/-- Rows added in halves, from 32 to 16. -/
def half16 (m : FVec F S32x128 .bf16) : FVec F S16x128 .bf16 :=
  addf (extractStridedSlice S16x128 ![0, 0] m slices_S32x128_o0_0_S16x128)
    (extractStridedSlice S16x128 ![16, 0] m slices_S32x128_o16_0_S16x128)

/-- The 16 rows of counts over the first `n` of the chunks `e`. -/
def acc16 (t : Fin 15) (e : Nat → FVec F S128x128 .bf16) : Nat → FVec F S16x128 .bf16
  | 0 => broadcast S16x128 (Scalar.ofBits .bf16 0x0000#16)
  | n + 1 => addf (acc16 t e n) (half16 (half32 (half64 (mask t (e n)))))

/-- The sum of 16 rows. -/
def rowSum (a : FVec F S16x128 .bf16) : FVec F S1x128 .f32 :=
  shapeCast S1x128 (multiReduction .add [0] S128 (extf .f32 a bitsLt_bf16_f32) 0x00000000#32 reduces_S16x128_S128 (.inl rfl) rfl)
    shapeCasts_S128_S1x128

/-- The counts over the first `g` groups of 16 chunks. -/
def acc32 (t : Fin 15) (e : Nat → FVec F S128x128 .bf16) : Nat → FVec F S1x128 .f32
  | 0 => broadcast S1x128 (Scalar.ofBits .f32 0x00000000#32)
  | g + 1 => addf (acc32 t e g) (rowSum (acc16 t (fun k => e (16 * g + k)) 16))

/-- What is stored for batch `b` and threshold `t`. -/
def payload (x : Blocks F) (b : Fin 4) (t : Fin 15) : FVec F S1x1x128 .f32 :=
  shapeCast S1x1x128 (acc32 t (fun n => e16 x b (Fin.ofNat 64 n)) 4) shapeCasts_S1x128_S1x1x128

/-- The store for batch `b` and threshold `t`: where, and what. -/
def store (x : Blocks F) (b : Fin 4) (t : Fin 15) : View.Piece (Elt F) S4x15x128 .f32 :=
  ⟨Rect.unit (s := S4x15x128) ![b.val, t.val, 0] S1x1x128.size (inb_out b t), payload x b t⟩

/-! ## The same over the extended reals, at an index -/

/-- Two sums of `n` terms are one sum of `n + n`. -/
theorem sum_halves {n : ℕ} (f : Fin (n + n) → EReal) :
    ∑ r : Fin n, (f (Fin.castAdd n r) + f (Fin.natAdd n r)) = ∑ r, f r := by
  rw [Fin.sum_univ_add, Finset.sum_add_distrib]

theorem cast_apply (v : FVec Ideal S1x5x128 .f32) (k : Fin 5) (n : Fin 128) :
    (shapeCast S5x128 v shapeCasts_S1x5x128_S5x128 (ix2 k n) : EReal) = v (ix3 0 k n) := by
  pointwise []

theorem pts_apply (x : Vec Ideal S4x5x8192 .f32) (b : Fin 4) (c : Fin 64) (k : Fin 5) (n : Fin 128) :
    (pts x b c (ix2 k n) : EReal) = x (ix3 b k ⟨c.val * 128 + n.val, by omega⟩) :=
  (cast_apply _ k n).trans (View.ld_unit_apply_of x _ _ _ _ _ fun a => by
    fin_cases a
    · exact (Nat.add_zero b.val).symm
    · exact (Nat.zero_add k.val).symm
    · rfl)

theorem locs_apply (x : Vec Ideal S5x128 .f32) (k : Fin 5) (l : Fin 128) :
    (locs x (ix2 k l) : EReal) = x (ix2 k l) := by
  pointwise [locs]

theorem dot_apply (p q : FVec Ideal S5x128 .f32) (n l : Fin 128) :
    (dot p q (ix2 n l) : EReal) = ∑ k : Fin 5, p (ix2 k n) * q (ix2 k l) := by
  pointwise [dot]

theorem mask_apply (t : Fin 15) (e : FVec Ideal S128x128 .bf16) (n l : Fin 128) :
    (mask t e (ix2 n l) : EReal) = if (e (ix2 n l) : EReal) ≤ Ideal.ofBits .bf16 (sq t) then 1 else 0 := by
  pointwise [mask]

theorem half64_apply (m : FVec Ideal S128x128 .bf16) (r : Fin 64) (l : Fin 128) :
    (half64 m (ix2 r l) : EReal) = m (ix2 (Fin.castAdd 64 r) l) + m (ix2 (Fin.natAdd 64 r) l) := by
  pointwise [half64]
  rfl

theorem half64_sum (m : FVec Ideal S128x128 .bf16) (l : Fin 128) :
    ∑ r : Fin 64, (half64 m (ix2 r l) : EReal) = ∑ r : Fin 128, (m (ix2 r l) : EReal) := by
  rw [Finset.sum_congr rfl fun r _ => half64_apply m r l]
  exact sum_halves (n := 64) fun r => m (ix2 r l)

theorem half32_apply (m : FVec Ideal S64x128 .bf16) (r : Fin 32) (l : Fin 128) :
    (half32 m (ix2 r l) : EReal) = m (ix2 (Fin.castAdd 32 r) l) + m (ix2 (Fin.natAdd 32 r) l) := by
  pointwise [half32]
  rfl

theorem half32_sum (m : FVec Ideal S64x128 .bf16) (l : Fin 128) :
    ∑ r : Fin 32, (half32 m (ix2 r l) : EReal) = ∑ r : Fin 64, (m (ix2 r l) : EReal) := by
  rw [Finset.sum_congr rfl fun r _ => half32_apply m r l]
  exact sum_halves (n := 32) fun r => m (ix2 r l)

theorem half16_apply (m : FVec Ideal S32x128 .bf16) (r : Fin 16) (l : Fin 128) :
    (half16 m (ix2 r l) : EReal) = m (ix2 (Fin.castAdd 16 r) l) + m (ix2 (Fin.natAdd 16 r) l) := by
  pointwise [half16]
  rfl

theorem half16_sum (m : FVec Ideal S32x128 .bf16) (l : Fin 128) :
    ∑ r : Fin 16, (half16 m (ix2 r l) : EReal) = ∑ r : Fin 32, (m (ix2 r l) : EReal) := by
  rw [Finset.sum_congr rfl fun r _ => half16_apply m r l]
  exact sum_halves (n := 16) fun r => m (ix2 r l)

theorem rowSum_apply (a : FVec Ideal S16x128 .bf16) (l : Fin 128) :
    (rowSum a (ix2 0 l) : EReal) = ∑ r : Fin 16, a (ix2 r l) := by
  pointwise [rowSum]

theorem acc16_apply (t : Fin 15) (e : Nat → FVec Ideal S128x128 .bf16) (l : Fin 128) : (N : Nat) →
    (∑ r : Fin 16, (acc16 t e N (ix2 r l) : EReal))
      = ∑ k ∈ Finset.range N, ∑ n : Fin 128, if (e k (ix2 n l) : EReal) ≤ Ideal.ofBits .bf16 (sq t) then 1 else 0
  | 0 => by
    pointwise [acc16]
    simp
  | N + 1 => by
    have h : ∀ r : Fin 16, (acc16 t e (N + 1) (ix2 r l) : EReal)
        = acc16 t e N (ix2 r l) + half16 (half32 (half64 (mask t (e N)))) (ix2 r l) := fun r => rfl
    rw [Finset.sum_congr rfl fun r _ => h r, Finset.sum_add_distrib, acc16_apply t e l N, Finset.sum_range_succ]
    congr 1
    rw [half16_sum, half32_sum, half64_sum]
    exact Finset.sum_congr rfl fun r _ => mask_apply t _ r l

theorem acc32_apply (t : Fin 15) (e : Nat → FVec Ideal S128x128 .bf16) (l : Fin 128) : (G : Nat) →
    (acc32 t e G (ix2 0 l) : EReal)
      = ∑ g ∈ Finset.range G, ∑ k ∈ Finset.range 16, ∑ n : Fin 128,
          if (e (16 * g + k) (ix2 n l) : EReal) ≤ Ideal.ofBits .bf16 (sq t) then 1 else 0
  | 0 => by
    pointwise [acc32]
    simp
  | G + 1 => by
    have h : (acc32 t e (G + 1) (ix2 0 l) : EReal)
        = acc32 t e G (ix2 0 l) + rowSum (acc16 t (fun k => e (16 * G + k)) 16) (ix2 0 l) := rfl
    rw [h, acc32_apply t e l G, Finset.sum_range_succ, rowSum_apply, acc16_apply]

/-- The sum over `a * b` numbers, taken `b` at a time. -/
theorem sum_blocks (f : ℕ → EReal) (b : ℕ) : (a : ℕ) →
    ∑ i ∈ Finset.range (a * b), f i = ∑ i ∈ Finset.range a, ∑ j ∈ Finset.range b, f (i * b + j)
  | 0 => by simp
  | a + 1 => by rw [Nat.succ_mul, Finset.sum_range_add, sum_blocks f b a, Finset.sum_range_succ]

/-- The three products of point `n` of batch `b` with place `l` of the block, rounded up. -/
def ceilD (x : Blocks Ideal) (b : Fin 4) (l : Fin 128) (n : Fin 8192) : EReal :=
  Ideal.liftRound Int.ceil (Cert.Counts.prods (fun k => x.ah (ix3 b k n)) (fun k => x.al (ix3 b k n))
    (fun k => x.lh (ix2 k l)) (fun k => x.ll (ix2 k l)))

theorem e16_apply (x : Blocks Ideal) (b : Fin 4) (c : Fin 64) (n l : Fin 128) :
    (e16 x b c (ix2 n l) : EReal) = ceilD x b l ⟨c.val * 128 + n.val, by omega⟩ := by
  have h : (e16 x b c (ix2 n l) : EReal) = Ideal.liftRound Int.ceil (((dot (pts x.ah b c) (locs x.lh) (ix2 n l) : EReal)
      + dot (pts x.ah b c) (locs x.ll) (ix2 n l)) + dot (pts x.al b c) (locs x.lh) (ix2 n l)) := rfl
  rw [h, dot_apply, dot_apply, dot_apply]
  simp only [pts_apply, locs_apply]
  rfl

/-- The stored row holds, at place `l`, how many of the 8192 points have a rounded squared distance of at most the
    threshold. -/
theorem payload_apply (x : Blocks Ideal) (b : Fin 4) (t : Fin 15) (l : Fin 128) :
    (payload x b t (ix3 0 0 l) : EReal) = Cert.Counts.counts (ceilD x b l) (Ideal.ofBits .bf16 (sq t)) := by
  have h : (payload x b t (ix3 0 0 l) : EReal) = acc32 t (fun n => e16 x b (Fin.ofNat 64 n)) 4 (ix2 0 l) := by
    pointwise [payload]
  let f : ℕ → EReal := fun i =>
    if ceilD x b l (Fin.ofNat 8192 i) ≤ Ideal.ofBits .bf16 (sq t) then 1 else 0
  have hf : Cert.Counts.counts (ceilD x b l) (Ideal.ofBits .bf16 (sq t)) = ∑ i ∈ Finset.range (64 * 128), f i := by
    rw [Finset.sum_range]
    exact Finset.sum_congr rfl fun n _ => by simp only [f, Fin.ofNat_eq_cast, Fin.cast_val_eq_self]
  rw [h, acc32_apply, hf, sum_blocks f 128 64, sum_blocks (fun c => ∑ j ∈ Finset.range 128, f (c * 128 + j)) 16 4]
  refine Finset.sum_congr rfl fun g hg => Finset.sum_congr rfl fun k hk => ?_
  have hg := Finset.mem_range.1 hg
  have hk := Finset.mem_range.1 hk
  rw [Finset.sum_range]
  refine Finset.sum_congr rfl fun n _ => ?_
  rw [e16_apply]
  have : (⟨(Fin.ofNat 64 (16 * g + k)).val * 128 + n.val, by omega⟩ : Fin 8192)
      = Fin.ofNat 8192 ((g * 16 + k) * 128 + n.val) := by
    apply Fin.ext
    simp only [Fin.ofNat]
    omega
  rw [this]

end Cert.KernelIdeal.Body
end
-- ==== Proof.Body.lean ====
/- The printed body writes the sixty rows of Spec.lean, and so its output block holds the counts. -/
module

public import proofs.«01_k».proof.Proof.Gen.KernelIdeal.Frame
public import proofs.«01_k».proof.Proof.Spec

@[expose] public section

set_option maxRecDepth 65536

noncomputable section

namespace Cert.KernelIdeal.Body

open Cert.KernelIdeal Cert.KernelIdeal.Gen Idealize.ShloMosaic Idealize.ShloMosaic.TcCoe
open Cert.Counts (sq)

variable {F : FTy → Type} [FloatOps F]

/-- The batch of the `i`-th store, the last store first. -/
def batchOf (i : Fin 60) : Fin 4 := ⟨3 - i.val / 15, by omega⟩

/-- The threshold of the `i`-th store, the last store first. -/
def thrOf (i : Fin 60) : Fin 15 := ⟨14 - i.val % 15, by omega⟩

set_option maxHeartbeats 4000000 in
/-- The body's output block is the sixty stores, one for each batch and threshold. -/
theorem out_eq (x : Blocks F) :
    out0_4 x.ah x.al x.lh x.ll = View.canon (List.ofFn fun i => store x (batchOf i) (thrOf i)) := rfl

/-- The row that the store for batch `b` and threshold `t` writes. -/
theorem emb_store (x : Blocks F) (b : Fin 4) (t : Fin 15) (l : Fin 128) :
    (store x b t).1.emb (ix3 0 0 l) = ix3 b t l := by
  funext a
  apply Fin.ext
  refine (Rect.idx_unit_val _ _ (inb_out b t) _ a).trans ?_
  fin_cases a
  · exact Nat.add_zero _
  · exact Nat.add_zero _
  · exact Nat.zero_add _

/-- The output block holds the counts. -/
theorem out_apply (x : Blocks Ideal) (b : Fin 4) (t : Fin 15) (l : Fin 128) :
    (out0_4 x.ah x.al x.lh x.ll (ix3 b t l) : EReal)
      = Cert.Counts.counts (ceilD x b l) (Ideal.ofBits .bf16 (sq t)) := by
  rw [out_eq]
  refine View.canon_apply_of_pieces (Val := Elt Ideal) (e := .f32)
    (fun y : S4x15x128.Idx => Cert.Counts.counts (ceilD x (y 0) (y 2)) (Ideal.ofBits .bf16 (sq (y 1)))) _ ?_ _ ?_
  · intro p hp y
    obtain ⟨i, rfl⟩ := (List.mem_ofFn' _ _).1 hp
    obtain ⟨l, rfl⟩ : ∃ l : Fin 128, y = ix3 0 0 l := ⟨y 2, by
      funext a
      fin_cases a
      · exact Subsingleton.elim (α := Fin 1) _ _
      · exact Subsingleton.elim (α := Fin 1) _ _
      · rfl⟩
    rw [emb_store]
    exact payload_apply x (batchOf i) (thrOf i) l
  · let i : Fin 60 := ⟨(3 - b.val) * 15 + (14 - t.val), by omega⟩
    have hb : batchOf i = b := Fin.ext (by simp only [batchOf, i]; omega)
    have ht : thrOf i = t := Fin.ext (by simp only [thrOf, i]; omega)
    refine ⟨store x (batchOf i) (thrOf i), (List.mem_ofFn' _ _).2 ⟨i, rfl⟩, ?_⟩
    rw [hb, ht]
    refine (Rect.mem_set_unit (inb := inb_out b t)).2 fun a => ?_
    fin_cases a
    · show b.val ≤ b.val ∧ b.val < b.val + 1; omega
    · show t.val ≤ t.val ∧ t.val < t.val + 1; omega
    · show 0 ≤ l.val ∧ l.val < 0 + 128; omega

end Cert.KernelIdeal.Body
end
-- ==== Proof.Host.lean ====
/- The four arrays that the host operations before the kernel make of the arguments. -/
module

public import proofs.«01_k».proof.Proof.Gen.KernelIdeal.Launch
public import Idealize.ShloMosaic.Lib.Claim
public import Idealize.ShloMosaic.Lib.Pointwise
public import proofs.«01_k».proof.Proof.Scalar

@[expose] public section

set_option maxRecDepth 16384

noncomputable section

namespace Cert.KernelIdeal.Host

open Cert.KernelIdeal Cert.KernelIdeal.Gen Idealize.ShloMosaic Idealize.ShloMosaic.TcCoe

variable {F : FTy → Type} [FloatOps F]

/-- The points' five numbers, as the host computes them. -/
def augV (p : FVec F S4x8192x3 .f32) : FVec F S4x5x8192 .f32 :=
  transpose S4x5x8192 [0, 2, 1] (concatenate S4x8192x5 2 [⟨S4x8192x3, p⟩,
    ⟨S4x8192x1, broadcastInDim S4x8192x1 ![0, 1] bcast_S4x8192_S4x8192x1_0_1
      (Host.reduceAdd (mulf p p) (constant S_ .f32 0x00000000#32) reducesTo_S4x8192x3_S4x8192_d2 h_S_)⟩,
    ⟨S4x8192x1, broadcastInDim S4x8192x1 ![] bcast_S_S4x8192x1 (constant S_ .f32 0x3F800000#32)⟩]
    concatenates_S4x8192x3_S4x8192x1_S4x8192x1_S4x8192x5_d2) transposes_S4x8192x5_S4x5x8192_0_2_1

/-- The places' five numbers, as the host computes them. -/
def laugV (q : FVec F S2048x3 .f32) : FVec F S5x2048 .f32 :=
  concatenate S5x2048 0 [⟨S3x2048, mulf (broadcastInDim S3x2048 ![] bcast_S_S3x2048 (constant S_ .f32 0xC0000000#32))
      (transpose S3x2048 [1, 0] q transposes_S2048x3_S3x2048_1_0)⟩,
    ⟨S1x2048, broadcastInDim S1x2048 ![] bcast_S_S1x2048 (constant S_ .f32 0x3F800000#32)⟩,
    ⟨S1x2048, broadcastInDim S1x2048 ![1] bcast_S2048_S1x2048_1
      (Host.reduceAdd (mulf q q) (constant S_ .f32 0x00000000#32) reducesTo_S2048x3_S2048_d1 h_S_)⟩]
    concatenates_S3x2048_S1x2048_S1x2048_S5x2048_d0

/-- A number rounded to the short format and back. -/
def short {s : Shape} (x : FVec F s .f32) : FVec F s .f32 := extf .f32 (truncf .bf16 x bitsLt_bf16_f32) bitsLt_bf16_f32

variable (V : Valuation τ sig (Elt F))

theorem after_v15 : StableHlo.after (List.flatten [hostOps0]) V (Proc.devRef .tc main_v15)
    = short (augV (V (Proc.devRef .tc main_arg0))) := by
  simp only [hostOps0, List.flatten_cons, List.flatten_nil, List.append_nil, List.cons_append, List.nil_append]
  after_results
  rfl

theorem after_v18 : StableHlo.after (List.flatten [hostOps0]) V (Proc.devRef .tc main_v18)
    = short (subf (augV (V (Proc.devRef .tc main_arg0))) (short (augV (V (Proc.devRef .tc main_arg0))))) := by
  simp only [hostOps0, List.flatten_cons, List.flatten_nil, List.append_nil, List.cons_append, List.nil_append]
  after_results
  rfl

theorem after_v20 : StableHlo.after (List.flatten [hostOps0]) V (Proc.devRef .tc main_v20)
    = short (laugV (V (Proc.devRef .tc main_arg1))) := by
  simp only [hostOps0, List.flatten_cons, List.flatten_nil, List.append_nil, List.cons_append, List.nil_append]
  after_results
  rfl

theorem after_v23 : StableHlo.after (List.flatten [hostOps0]) V (Proc.devRef .tc main_v23)
    = short (subf (laugV (V (Proc.devRef .tc main_arg1))) (short (laugV (V (Proc.devRef .tc main_arg1))))) := by
  simp only [hostOps0, List.flatten_cons, List.flatten_nil, List.append_nil, List.cons_append, List.nil_append]
  after_results
  rfl

theorem augV_apply (p : FVec Ideal S4x8192x3 .f32) (b : Fin 4) (k : Fin 5) (n : Fin 8192) :
    (augV p (ix3 b k n) : EReal) = Cert.Counts.aug (fun x => p (ix3 b n x)) k := by
  pointwise [augV]
  fin_cases k <;> simp [Cert.Counts.aug]

theorem laugV_apply (q : FVec Ideal S2048x3 .f32) (k : Fin 5) (l : Fin 2048) :
    (laugV q (ix2 k l) : EReal) = Cert.Counts.laug (fun x => q (ix2 l x)) k := by
  pointwise [laugV]
  fin_cases k <;> simp [Cert.Counts.laug, Cert.Counts.ofBits_neg_two]

end Cert.KernelIdeal.Host
end
-- ==== Proof.Result.lean ====
/- The kernel's result array: every block that the grid writes back is the block of one array of counts. -/
module

public import proofs.«01_k».proof.Proof.Body
public import proofs.«01_k».proof.Proof.Host

@[expose] public section

set_option maxRecDepth 16384

noncomputable section

namespace Cert.KernelIdeal.Result

open Cert.KernelIdeal Cert.KernelIdeal.Gen Idealize.ShloMosaic Idealize.ShloMosaic.TcCoe Idealize.SL.Sem
open Idealize.ShloMosaic.Pipeline (Dat)
open Cert.Counts (sq)

variable (m : (ℓ : Loc nD τ sig) → Buf (Elt Ideal) ℓ) (ρ : Dev nD → PrngReg)

/-- Coordinates `x` of point `n` of batch `b`. -/
def pt (c : Dev nD) (b : Fin 4) (n : Fin 8192) (x : Fin 3) : EReal := m ((c : Thread nD τ).loc main_arg0) (ix3 b n x)

/-- Coordinates `x` of place `l`. -/
def loc (c : Dev nD) (l : Fin 2048) (x : Fin 3) : EReal := m ((c : Thread nD τ).loc main_arg1) (ix2 l x)

/-- The products of a point's and a place's numbers with remainders, rounded up. -/
def ceilP (p q : Fin 3 → EReal) : EReal :=
  Ideal.liftRound Int.ceil (Cert.Counts.prods (Cert.Counts.aug p) (fun k => Cert.Counts.aug p k - Cert.Counts.aug p k)
    (Cert.Counts.laug q) (fun k => Cert.Counts.laug q k - Cert.Counts.laug q k))

theorem ah_apply (c : Dev nD) (b : Fin 4) (k : Fin 5) (n : Fin 8192) :
    (V m c main_v15 (ix3 b k n) : EReal) = Cert.Counts.aug (pt m c b n) k :=
  (congrFun (Host.after_v15 fun b => m (c, b)) (ix3 b k n)).trans (Host.augV_apply _ b k n)

theorem al_apply (c : Dev nD) (b : Fin 4) (k : Fin 5) (n : Fin 8192) :
    (V m c main_v18 (ix3 b k n) : EReal) = Cert.Counts.aug (pt m c b n) k - Cert.Counts.aug (pt m c b n) k := by
  have h := congrFun (Host.after_v18 fun b => m (c, b)) (ix3 b k n)
  have e : Cert.Counts.aug (pt m c b n) k = _ := (Host.augV_apply (m ((c : Thread nD τ).loc main_arg0)) b k n).symm
  rw [e]
  exact h

theorem lh_apply (c : Dev nD) (k : Fin 5) (l : Fin 2048) :
    (V m c main_v20 (ix2 k l) : EReal) = Cert.Counts.laug (loc m c l) k :=
  (congrFun (Host.after_v20 fun b => m (c, b)) (ix2 k l)).trans (Host.laugV_apply _ k l)

theorem ll_apply (c : Dev nD) (k : Fin 5) (l : Fin 2048) :
    (V m c main_v23 (ix2 k l) : EReal) = Cert.Counts.laug (loc m c l) k - Cert.Counts.laug (loc m c l) k := by
  have h := congrFun (Host.after_v23 fun b => m (c, b)) (ix2 k l)
  have e : Cert.Counts.laug (loc m c l) k = _ := (Host.laugV_apply (m ((c : Thread nD τ).loc main_arg1)) k l).symm
  rw [e]
  exact h

/-- Where the windows' blocks lie. -/
theorem index_closed : ∀ t : Fin grid0.N,
    (win0_0.index t 0 = 0 ∧ win0_0.index t 1 = 0 ∧ win0_0.index t 2 = 0)
    ∧ (win0_1.index t 0 = 0 ∧ win0_1.index t 1 = 0 ∧ win0_1.index t 2 = 0)
    ∧ (win0_2.index t 0 = 0 ∧ win0_2.index t 1 = t.val)
    ∧ (win0_3.index t 0 = 0 ∧ win0_3.index t 1 = t.val)
    ∧ (win0_4.index t 0 = 0 ∧ win0_4.index t 1 = 0 ∧ win0_4.index t 2 = t.val) := by decide +kernel

/-- The place that lies at `l` in block `t`. -/
def place (t : Fin cfg0.N) (l : Fin 128) : Fin 2048 :=
  ⟨t.val * 128 + l.val, by have := t.isLt; have h : cfg0.N = 16 := N_0; omega⟩

theorem iblk0_apply (c : Dev nD) (t : Fin cfg0.N) (b : Fin 4) (k : Fin 5) (n : Fin 8192) :
    iblk m c 0 t (ix3 b k n) = V m c main_v15 (ix3 b k n) := by
  refine congrArg (V m c main_v15) (funext fun a => Fin.ext ?_)
  obtain ⟨⟨h0, h1, h2⟩, -⟩ := index_closed t
  fin_cases a
  · show win0_0.index t 0 * 4 + 1 * b.val = b.val; omega
  · show win0_0.index t 1 * 5 + 1 * k.val = k.val; omega
  · show win0_0.index t 2 * 8192 + 1 * n.val = n.val; omega

theorem iblk1_apply (c : Dev nD) (t : Fin cfg0.N) (b : Fin 4) (k : Fin 5) (n : Fin 8192) :
    iblk m c 1 t (ix3 b k n) = V m c main_v18 (ix3 b k n) := by
  refine congrArg (V m c main_v18) (funext fun a => Fin.ext ?_)
  obtain ⟨-, ⟨h0, h1, h2⟩, -⟩ := index_closed t
  fin_cases a
  · show win0_1.index t 0 * 4 + 1 * b.val = b.val; omega
  · show win0_1.index t 1 * 5 + 1 * k.val = k.val; omega
  · show win0_1.index t 2 * 8192 + 1 * n.val = n.val; omega

theorem iblk2_apply (c : Dev nD) (t : Fin cfg0.N) (k : Fin 5) (l : Fin 128) :
    iblk m c 2 t (ix2 k l) = V m c main_v20 (ix2 k (place t l)) := by
  refine congrArg (V m c main_v20) (funext fun a => Fin.ext ?_)
  obtain ⟨-, -, ⟨h0, h1⟩, -⟩ := index_closed t
  fin_cases a
  · show win0_2.index t 0 * 5 + 1 * k.val = k.val; omega
  · show win0_2.index t 1 * 128 + 1 * l.val = t.val * 128 + l.val; omega

theorem iblk3_apply (c : Dev nD) (t : Fin cfg0.N) (k : Fin 5) (l : Fin 128) :
    iblk m c 3 t (ix2 k l) = V m c main_v23 (ix2 k (place t l)) := by
  refine congrArg (V m c main_v23) (funext fun a => Fin.ext ?_)
  obtain ⟨-, -, -, ⟨h0, h1⟩, -⟩ := index_closed t
  fin_cases a
  · show win0_3.index t 0 * 5 + 1 * k.val = k.val; omega
  · show win0_3.index t 1 * 128 + 1 * l.val = t.val * 128 + l.val; omega

/-- The array of counts: batch, threshold, place. -/
def total (c : Dev nD) : FVec Ideal S4x15x2048 .f32 :=
  fun i => Cert.Counts.counts (fun n => ceilP (pt m c (i 0) n) (loc m c (i 2))) (Ideal.ofBits .bf16 (sq (i 1)))

/-- What point `t` leaves in its output block is its block of the counts. -/
theorem block_apply (c : Dev nD) (t : Fin cfg0.N) (b : Fin 4) (k : Fin 15) (l : Fin 128) :
    (out0_4 (iblk m c 0 t) (iblk m c 1 t) (iblk m c 2 t) (iblk m c 3 t) (ix3 b k l) : EReal)
      = total m c (ix3 b k (place t l)) := by
  refine (Body.out_apply ⟨iblk m c 0 t, iblk m c 1 t, iblk m c 2 t, iblk m c 3 t⟩ b k l).trans ?_
  refine congrArg (Cert.Counts.counts · (Ideal.ofBits .bf16 (sq k))) (funext fun n => ?_)
  have e0 := funext fun k => (iblk0_apply m c t b k n).trans (ah_apply m c b k n)
  have e1 := funext fun k => (iblk1_apply m c t b k n).trans (al_apply m c b k n)
  have e2 := funext fun k => (iblk2_apply m c t k l).trans (lh_apply m c k (place t l))
  have e3 := funext fun k => (iblk3_apply m c t k l).trans (ll_apply m c k (place t l))
  exact congrArg (Ideal.liftRound Int.ceil) (congr (congr (congr (congrArg Cert.Counts.prods e0) e1) e2) e3)

theorem flushed_eq (c : Dev nD) (t : Fin cfg0.N) :
    (dats m 0 c).flushed 4 t = (win0_4.blk t).view.read (Elt Ideal) (total m c) := by
  show (cfg0.win 4).cut (grid0.coords t) ((dats m 0 c).after 4 t) = _
  rw [after0_4]
  funext y
  obtain ⟨b, k, l, rfl⟩ : ∃ (b : Fin 4) (k : Fin 15) (l : Fin 128), y = ix3 b k l := ⟨y 0, y 1, y 2, by
    funext a
    fin_cases a <;> rfl⟩
  refine (block_apply m c t b k l).trans (congrArg (total m c) (funext fun a => Fin.ext ?_))
  obtain ⟨-, -, -, -, h0, h1, h2⟩ := index_closed t
  fin_cases a
  · show b.val = win0_4.index t 0 * 4 + 1 * b.val; omega
  · show k.val = win0_4.index t 1 * 15 + 1 * k.val; omega
  · show t.val * 128 + l.val = win0_4.index t 2 * 128 + 1 * l.val; omega

theorem cover (i : S4x15x2048.Idx) :
    ∃ t : Fin cfg0.N, (cfg0.win 4).flush t = true ∧ i ∈ ((cfg0.win 4).blk t).view.set := by
  have hN : cfg0.N = 16 := N_0
  have hi : (i 2 : Nat) < 2048 := (i 2).isLt
  let t : Fin cfg0.N := ⟨(i 2 : Nat) / 128, by omega⟩
  refine ⟨t, flush0_4 t, ?_⟩
  show i ∈ ((View.whole main_v24).slice (win0_4.rect t)).set
  rw [View.set_slice_whole, Rect.mem_set_unit]
  obtain ⟨-, -, -, -, h0, h1, h2⟩ := index_closed t
  have e0 : (i 0 : Nat) < 4 := (i 0).isLt
  have e1 : (i 1 : Nat) < 15 := (i 1).isLt
  have ht : t.val = (i 2 : Nat) / 128 := rfl
  intro a
  fin_cases a
  · show win0_4.index t 0 * 4 ≤ (i 0 : Nat) ∧ (i 0 : Nat) < win0_4.index t 0 * 4 + 4; omega
  · show win0_4.index t 1 * 15 ≤ (i 1 : Nat) ∧ (i 1 : Nat) < win0_4.index t 1 * 15 + 15; omega
  · show win0_4.index t 2 * 128 ≤ (i 2 : Nat) ∧ (i 2 : Nat) < win0_4.index t 2 * 128 + 128; omega

/-- The kernel's output array ends at the counts. -/
theorem final (c : Dev nD) : (dats m 0 c).arrAt 4 cfg0.N = total m c :=
  (dats m 0 c).arrAt_eq_of_cover 4 (total m c) (fun t _ => flushed_eq m c t) cover

/-- The windows' arrays are distinct. -/
theorem arr_inj : Function.Injective (Pipeline.arrRef spec0) := by decide

/-- What the program leaves in its result: the counts with the last two axes exchanged. -/
theorem tail (c : Dev nD) :
    Pipeline.afterTail₀ cfgs (dats m) 0 (V0 m) [hostOps1] c main_v25
      = transpose S4x2048x15 [0, 2, 1] (total m c) transposes_S4x15x2048_S4x2048x15_0_2_1 := by
  unfold Pipeline.afterTail₀
  have e : Pipeline.withArrays (cfgs 0).spec c (V0 m c) (fun w => (dats m 0 c).arrAt w (cfgs 0).N)
      (Proc.devRef .tc main_v24) = total m c :=
    (Pipeline.withArrays_arr spec0 arr_inj c (V0 m c) (fun w => (dats m 0 c).arrAt w cfg0.N) 4).trans (final m c)
  generalize Pipeline.withArrays (cfgs 0).spec c (V0 m c) (fun w => (dats m 0 c).arrAt w (cfgs 0).N) = W at e ⊢
  simp only [hostOps1, List.flatten_cons, List.flatten_nil, List.append_nil]
  after_results
  exact congrArg (fun v => transpose S4x2048x15 [0, 2, 1] v transposes_S4x15x2048_S4x2048x15_0_2_1) e

/-- The program ends with the counts in its result and its arguments unchanged. -/
theorem run : θ_run defs (onTc (τ := τ) (main (F := Ideal))) ⟨m, fun _ => 0, ρ⟩ fun r => ∀ c : Dev nD,
    r.2.mem ((c : Thread nD τ).loc main_v25)
        = transpose S4x2048x15 [0, 2, 1] (total m c) transposes_S4x15x2048_S4x2048x15_0_2_1
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨?_, ?_, ?_⟩) (run_main m ρ)
  · exact ((h c).2 main_v25 (Pipeline.mem_restRefs_of main_v25 (by decide) (by decide))).trans (tail m c)
  · exact ((h c).2 main_arg0 (Pipeline.mem_restRefs_of main_arg0 (by decide) (by decide))).trans (W_main_arg0 m _ c)
  · exact ((h c).2 main_arg1 (Pipeline.mem_restRefs_of main_arg1 (by decide) (by decide))).trans (W_main_arg1 m _ c)

end Cert.KernelIdeal.Result
end
-- ==== Proof.RefValue.lean ====
/- What the reference computes, read at one entry. -/
module

public import proofs.«01_k».proof.Proof.Gen.ReferenceIdeal.Run
public import proofs.«01_k».proof.Proof.Scalar
public import Idealize.ShloMosaic.Lib.Pointwise

@[expose] public section

set_option maxRecDepth 16384

noncomputable section

namespace Cert.ReferenceIdeal.Counts

open Cert.ReferenceIdeal Cert.ReferenceIdeal.Gen Cert.ReferenceIdeal.Value Idealize.ShloMosaic Idealize.ShloMosaic.TcCoe

/-- The reference's distance, rounded up, of place `l` and point `n` of batch `b`. -/
theorem v8_apply (V0 : Valuation τ sig (Elt Ideal)) (l : Fin 2048) (b : Fin 4) (n : Fin 8192) :
    (res_main_v8 V0 (ix3 l b n) : EReal)
      = Ideal.liftRound Int.ceil (Ideal.sqrt (Cert.Counts.dist2 (fun x => V0 (Proc.devRef .tc main_arg0) (ix3 b n x))
          (fun x => V0 (Proc.devRef .tc main_arg1) (ix2 l x)))) := by
  pointwise [res_main_v8, res_main_v4]
  rfl

/-- The reference's count, for threshold `t`, place `l` and batch `b`. -/
theorem v99_apply (V0 : Valuation τ sig (Elt Ideal)) (t : Fin 15) (l : Fin 2048) (b : Fin 4) :
    (res_main_v99 V0 (ix3 t l b) : EReal)
      = Cert.Counts.counts (fun n => res_main_v8 V0 (ix3 l b n)) (Ideal.ofBits .f32 (Cert.Counts.lin t)) := by
  pointwise [res_main_v99, id_eq]
  fin_cases t <;> simp [-Finset.sum_boole, Cert.Counts.lin]

end Cert.ReferenceIdeal.Counts
end
-- ==== Proof.Finite.lean ====
/- What the precondition says: every coordinate is a real number. -/
module

public import proofs.«01_k».proof.Proof.Gen.Pre_finite
public import Idealize.ShloMosaic.PureOps.Ideal

@[expose] public section

noncomputable section

namespace Cert.Pre_finite.Real

open Idealize.ShloMosaic Cert.Pre_finite

/-- A number whose absolute value is below infinity is real. -/
theorem real_of_lt (x : EReal) (h : Ideal.cmp .olt (max x (-x)) (Ideal.ofBits .f32 0x7F800000#32) = 1#1) :
    ∃ r : ℝ, x = r := by
  have htop : Ideal.ofBits .f32 0x7F800000#32 = ⊤ := by simp [Ideal.ofBits, Ideal.ieee]
  rw [htop] at h
  induction x with
  | bot => simp [Ideal.cmp] at h
  | coe r => exact ⟨r, rfl⟩
  | top => simp [Ideal.cmp] at h

variable [Facts] (p : FVec Ideal S4x8192x3 .f32) (q : FVec Ideal S2048x3 .f32)

theorem real_fst (h : (fn (F := Ideal) p q).1 = fun _ => 1#1) (i : S4x8192x3.Idx) : ∃ r : ℝ, (p i : EReal) = r :=
  real_of_lt _ (congrFun h i)

theorem real_snd (h : (fn (F := Ideal) p q).2 = fun _ => 1#1) (i : S2048x3.Idx) : ∃ r : ℝ, (q i : EReal) = r :=
  real_of_lt _ (congrFun h i)

end Cert.Pre_finite.Real
end
-- ==== Proof.Equal.lean ====
/- The kernel's counts are the reference's counts, entry by entry. -/
module

public import proofs.«01_k».proof.Proof.Result
public import proofs.«01_k».proof.Proof.RefValue
public import proofs.«01_k».proof.Proof.Finite

@[expose] public section

set_option maxRecDepth 16384

noncomputable section

namespace Cert.Equal

open Idealize.ShloMosaic Idealize.ShloMosaic.TcCoe Idealize.SL.Sem
open Cert.KernelIdeal.Result (pt loc ceilP total)
open Cert.Counts (sq lin)

variable (m : (ℓ : Loc Cert.KernelIdeal.nD Cert.KernelIdeal.τ Cert.KernelIdeal.sig) → Buf (Elt Ideal) ℓ)
variable (V : Valuation Cert.ReferenceIdeal.τ Cert.ReferenceIdeal.sig (Elt Ideal))

/-- Entry by entry: batch `b`, place `l`, threshold `t`. -/
theorem total_eq (c : Dev Cert.KernelIdeal.nD)
    (hp : ∀ b n x, ∃ r : ℝ, pt m c b n x = r) (hq : ∀ l x, ∃ r : ℝ, loc m c l x = r)
    (h0 : ∀ b n x, (V (Proc.devRef .tc Cert.ReferenceIdeal.main_arg0) (ix3 b n x) : EReal) = pt m c b n x)
    (h1 : ∀ l x, (V (Proc.devRef .tc Cert.ReferenceIdeal.main_arg1) (ix2 l x) : EReal) = loc m c l x)
    (b : Fin 4) (l : Fin 2048) (t : Fin 15) :
    (total m c (ix3 b t l) : EReal) = Cert.ReferenceIdeal.Value.res_main_v99 V (ix3 t l b) := by
  rw [Cert.ReferenceIdeal.Counts.v99_apply]
  refine Finset.sum_congr rfl fun n _ => if_congr ?_ rfl rfl
  have e : (Cert.ReferenceIdeal.Value.res_main_v8 V (ix3 l b n) : EReal)
      = Ideal.liftRound Int.ceil (Ideal.sqrt (Cert.Counts.dist2 (pt m c b n) (loc m c l))) := by
    rw [Cert.ReferenceIdeal.Counts.v8_apply]
    exact congrArg (fun d => Ideal.liftRound Int.ceil (Ideal.sqrt d))
      (congr (congrArg Cert.Counts.dist2 (funext fun x => h0 b n x)) (funext fun x => h1 l x))
  exact (Cert.Counts.counts_iff (pt m c b n) (loc m c l) (hp b n) (hq l) t).trans
    (Iff.of_eq (congrArg (· ≤ Ideal.ofBits .f32 (lin t)) e.symm))

/-- The two results are one array. -/
theorem result_eq (c : Dev Cert.KernelIdeal.nD)
    (hp : ∀ b n x, ∃ r : ℝ, pt m c b n x = r) (hq : ∀ l x, ∃ r : ℝ, loc m c l x = r)
    (h0 : ∀ b n x, (V (Proc.devRef .tc Cert.ReferenceIdeal.main_arg0) (ix3 b n x) : EReal) = pt m c b n x)
    (h1 : ∀ l x, (V (Proc.devRef .tc Cert.ReferenceIdeal.main_arg1) (ix2 l x) : EReal) = loc m c l x)
    (hk hr) :
    transpose (α := Elt Ideal .f32) Cert.ReferenceIdeal.S4x2048x15 [2, 1, 0] (Cert.ReferenceIdeal.Value.res_main_v99 V) hr
      = transpose (α := Elt Ideal .f32) Cert.KernelIdeal.S4x2048x15 [0, 2, 1] (total m c) hk := by
  funext i
  obtain ⟨b, l, t, rfl⟩ : ∃ (b : Fin 4) (l : Fin 2048) (t : Fin 15), i = ix3 b l t := ⟨i 0, i 1, i 2, by
    funext a
    fin_cases a <;> rfl⟩
  have ek : transpose (α := Elt Ideal .f32) Cert.KernelIdeal.S4x2048x15 [0, 2, 1] (total m c) hk (ix3 b l t)
      = total m c (ix3 b t l) := by pointwise
  have er : transpose (α := Elt Ideal .f32) Cert.ReferenceIdeal.S4x2048x15 [2, 1, 0] (Cert.ReferenceIdeal.Value.res_main_v99 V) hr (ix3 b l t)
      = Cert.ReferenceIdeal.Value.res_main_v99 V (ix3 t l b) := by pointwise
  rw [ek, er]
  exact (total_eq m V c hp hq h0 h1 b l t).symm

end Cert.Equal
end
-- ==== Proof.lean ====
/- The proof of the claims. The three programs run and leave their arguments unchanged and their counters at zero;
   on finite inputs the kernel's result and the reference's are one array of counts (Proof/Equal.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import Idealize.ShloMosaic.Adequacy
public import Idealize.ShloMosaic.Init
public import Idealize.ShloMosaic.Lib.Quiescent
public import proofs.«01_k».proof.Proof.Equal

@[expose] public section

set_option maxRecDepth 16384

noncomputable section

namespace Cert.Proof

open Idealize.ShloMosaic Idealize.SL.Sem Cert.Kernel

/-- The reference runs, its arguments end unchanged and its counters at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
        ∧ r.2.sem = fun _ => 0) :=
  (θ_run _ _ _).mono (fun r h => ⟨fun c => ⟨(h c).2.1, (h c).2.2⟩,
      Idealize.ShloMosaic.sem_eq_zero_of_no_sems (by decide) r.2⟩)
    (Cert.ReferenceIdeal.Value.run (F := Ideal) m g)

/-- From finite inputs on which the two programs agree, both end with one array of counts. -/
theorem algebraic : Cert.algebraic_KernelIdeal_ReferenceIdeal_pre_finite := by
  intro m g m' g' hpre hargs
  refine ⟨fun c => transpose Cert.KernelIdeal.S4x2048x15 [0, 2, 1] (Cert.KernelIdeal.Result.total m c)
    Cert.KernelIdeal.Gen.transposes_S4x15x2048_S4x2048x15_0_2_1, Cert.KernelIdeal.Result.run m g, ?_⟩
  refine (θ_run _ _ _).mono (fun r h c => ⟨(h c).1.trans ?_, (h c).2.1, (h c).2.2⟩)
    (Cert.ReferenceIdeal.Value.run (F := Ideal) m' g')
  exact Cert.Equal.result_eq m (StableHlo.launchContents m' c) c
    (fun b n x => Cert.Pre_finite.Real.real_fst _ _ (hpre c).1 (ix3 b n x))
    (fun l x => Cert.Pre_finite.Real.real_snd _ _ (hpre c).2 (ix2 l x))
    (fun b n x => congrFun (hargs c).1 (ix3 b n x))
    (fun l x => congrFun (hargs c).2 (ix2 l x)) _ _

theorem claim : Cert.Claim := ⟨Cert.Kernel.Gen.facts, Cert.KernelIdeal.Gen.facts, Cert.ReferenceIdeal.Gen.facts, Cert.Pre_finite.Gen.facts,
  fun m g _ => Cert.Kernel.Gen.frame m g,
  fun m g _ => Cert.KernelIdeal.Gen.frame m g,
  fun m g _ => Cert.KernelIdeal.Gen.frame m g,
  fun m g _ => reference_frame m g,
  fun m g _ => reference_frame m g,
  trivial,
  algebraic⟩

end Cert.Proof

end
